-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_samples [hPre_finite_samples : Cert.Pre_finite_samples.Facts] (m : (ℓ : Loc Cert.KernelIdeal.nD Cert.KernelIdeal.τ Cert.KernelIdeal.sig) → Buf (Elt Ideal) ℓ) : Prop :=
  ∀ c : Dev Cert.KernelIdeal.nD,
    (Cert.Pre_finite_samples.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_samples [hPre_finite_samples : Cert.Pre_finite_samples.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_samples.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_samples [hKernelIdeal : Cert.KernelIdeal.Facts] [hPre_finite_samples : Cert.Pre_finite_samples.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_samples m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_samples [hReferenceIdeal : Cert.ReferenceIdeal.Facts] [hPre_finite_samples : Cert.Pre_finite_samples.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_samples m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_samples [hKernelIdeal : Cert.KernelIdeal.Facts] [hReferenceIdeal : Cert.ReferenceIdeal.Facts] [hPre_finite_samples : Cert.Pre_finite_samples.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_samples m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_samples : Cert.Pre_finite_samples.Facts),
    quiescent_Kernel (hKernel := hKernel)
    ∧ quiescent_KernelIdeal (hKernelIdeal := hKernelIdeal)
    ∧ quiescent_KernelIdeal_pre_finite_samples (hKernelIdeal := hKernelIdeal) (hPre_finite_samples := hPre_finite_samples)
    ∧ quiescent_ReferenceIdeal (hReferenceIdeal := hReferenceIdeal)
    ∧ quiescent_ReferenceIdeal_pre_finite_samples (hReferenceIdeal := hReferenceIdeal) (hPre_finite_samples := hPre_finite_samples)
    ∧ preserves_Kernel_KernelIdeal
    ∧ algebraic_KernelIdeal_ReferenceIdeal_pre_finite_samples (hKernelIdeal := hKernelIdeal) (hReferenceIdeal := hReferenceIdeal) (hPre_finite_samples := hPre_finite_samples)
-- ==== Pre_finite_samples.lean ====
abbrev S8x2048x128 : Shape := ⟨3, ![8, 2048, 128]⟩
abbrev S128 : Shape := ⟨1, ![128]⟩
abbrev S_ : Shape := ⟨0, ![]⟩

class Facts : Prop where
  bcast_S_S8x2048x128 : S_.BroadcastsInDim S8x2048x128 (![] : Fin 0 → Fin S8x2048x128.rank)
  reducesTo_S8x2048x128_S_d0_1_2 : S8x2048x128.ReducesTo [0, 1, 2] S_
  h_S_ : 0 < S_.numel

variable [Facts]

def fn {F : FTy → Type} [FloatOps F] (main_arg0 : FVec F S8x2048x128 .f32) (main_arg1 : FVec F S8x2048x128 .f32) (main_arg2 : IVec S128 1) : IVec S_ 1 :=
  let main_v0 : FVec F S8x2048x128 .f32 := Host.absf main_arg0
  let main_cst : FVec F S_ .f32 := constant S_ .f32 0x7F800000#32
  let main_v1 : FVec F S8x2048x128 .f32 := broadcastInDim S8x2048x128 ![] bcast_S_S8x2048x128 main_cst
  let main_v2 : IVec S8x2048x128 1 := cmpf .olt main_v0 main_v1
  let main_c : IVec S_ 1 := constantI S_ 1 1#1
  let main_v3 : IVec S_ 1 := (fun x v => Host.reduce IntOp.andi x v reducesTo_S8x2048x128_S_d0_1_2 h_S_) main_v2 main_c
  let main_v4 : FVec F S8x2048x128 .f32 := Host.absf main_arg1
  let main_cst_0 : FVec F S_ .f32 := constant S_ .f32 0x7F800000#32
  let main_v5 : FVec F S8x2048x128 .f32 := broadcastInDim S8x2048x128 ![] bcast_S_S8x2048x128 main_cst_0
  let main_v6 : IVec S8x2048x128 1 := cmpf .olt main_v4 main_v5
  let main_c_1 : IVec S_ 1 := constantI S_ 1 1#1
  let main_v7 : IVec S_ 1 := (fun x v => Host.reduce IntOp.andi x v reducesTo_S8x2048x128_S_d0_1_2 h_S_) main_v6 main_c_1
  let main_v8 : IVec S_ 1 := andi main_v3 main_v7
  main_v8
-- ==== Kernel.lean ====
abbrev S8x2048x128 : Shape := ⟨3, ![8, 2048, 128]⟩
abbrev S128 : Shape := ⟨1, ![128]⟩
abbrev S1x1x128 : Shape := ⟨3, ![1, 1, 128]⟩
abbrev S32x1x512 : Shape := ⟨3, ![32, 1, 512]⟩
abbrev S1x512x128 : Shape := ⟨3, ![1, 512, 128]⟩
abbrev S1x2048x128 : Shape := ⟨3, ![1, 2048, 128]⟩
abbrev S1x1x512 : Shape := ⟨3, ![1, 1, 512]⟩
abbrev S2048x1 : Shape := ⟨2, ![2048, 1]⟩
abbrev S2048x384 : Shape := ⟨2, ![2048, 384]⟩
abbrev S2048x128 : Shape := ⟨2, ![2048, 128]⟩
abbrev S2048 : Shape := ⟨1, ![2048]⟩
abbrev S512x128 : Shape := ⟨2, ![512, 128]⟩
abbrev S512x384 : Shape := ⟨2, ![512, 384]⟩
abbrev S2048x512 : Shape := ⟨2, ![2048, 512]⟩
abbrev S512 : Shape := ⟨1, ![512]⟩
abbrev S1x512 : Shape := ⟨2, ![1, 512]⟩
abbrev S1x128 : Shape := ⟨2, ![1, 128]⟩
abbrev S8x2048 : Shape := ⟨2, ![8, 2048]⟩

abbrev nBuf : Space → Nat
  | .hbm => 10
  | .vmem => 10
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S128, .i1⟩
  | .hbm, ⟨3, _⟩ => ⟨S1x1x128, .i1⟩
  | .hbm, ⟨4, _⟩ => ⟨S8x2048x128, .i1⟩
  | .hbm, ⟨5, _⟩ => ⟨S8x2048x128, .f32⟩
  | .hbm, ⟨6, _⟩ => ⟨S32x1x512, .f32⟩
  | .hbm, ⟨7, _⟩ => ⟨S32x1x512, .i32⟩
  | .hbm, ⟨8, _⟩ => ⟨S8x2048, .f32⟩
  | .hbm, ⟨9, _⟩ => ⟨S8x2048, .i32⟩
  | .local _ .vmem, ⟨0, _⟩ => ⟨S1x512x128, .f32⟩
  | .local _ .vmem, ⟨1, _⟩ => ⟨S1x512x128, .f32⟩
  | .local _ .vmem, ⟨2, _⟩ => ⟨S1x2048x128, .f32⟩
  | .local _ .vmem, ⟨3, _⟩ => ⟨S1x2048x128, .f32⟩
  | .local _ .vmem, ⟨4, _⟩ => ⟨S1x1x512, .f32⟩
  | .local _ .vmem, ⟨5, _⟩ => ⟨S1x1x512, .f32⟩
  | .local _ .vmem, ⟨6, _⟩ => ⟨S1x1x512, .i32⟩
  | .local _ .vmem, ⟨7, _⟩ => ⟨S1x1x512, .i32⟩
  | .local _ .vmem, ⟨8, _⟩ => ⟨S2048x1, .f32⟩
  | .local _ .vmem, ⟨9, _⟩ => ⟨S2048x384, .bf16⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8x2048x128 : Shape := ⟨3, ![8, 2048, 128]⟩
abbrev S128 : Shape := ⟨1, ![128]⟩
abbrev S1x1x128 : Shape := ⟨3, ![1, 1, 128]⟩
abbrev S8x2048x1x128 : Shape := ⟨4, ![8, 2048, 1, 128]⟩
abbrev S8x1x2048x128 : Shape := ⟨4, ![8, 1, 2048, 128]⟩
abbrev S8x2048x2048x128 : Shape := ⟨4, ![8, 2048, 2048, 128]⟩
abbrev S_ : Shape := ⟨0, ![]⟩
abbrev S8x2048x2048 : Shape := ⟨3, ![8, 2048, 2048]⟩
abbrev S8x2048 : Shape := ⟨2, ![8, 2048]⟩

abbrev nBuf : Space → Nat
  | .hbm => 22
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S128, .i1⟩
  | .hbm, ⟨3, _⟩ => ⟨S1x1x128, .i1⟩
  | .hbm, ⟨4, _⟩ => ⟨S8x2048x128, .i1⟩
  | .hbm, ⟨5, _⟩ => ⟨S8x2048x128, .f32⟩
  | .hbm, ⟨6, _⟩ => ⟨S8x2048x1x128, .f32⟩
  | .hbm, ⟨7, _⟩ => ⟨S8x1x2048x128, .f32⟩
  | .hbm, ⟨8, _⟩ => ⟨S8x2048x2048x128, .f32⟩
  | .hbm, ⟨9, _⟩ => ⟨S8x2048x2048x128, .f32⟩
  | .hbm, ⟨10, _⟩ => ⟨S8x2048x2048x128, .f32⟩
  | .hbm, ⟨11, _⟩ => ⟨S8x2048x2048x128, .f32⟩
  | .hbm, ⟨12, _⟩ => ⟨S_, .f32⟩
  | .hbm, ⟨13, _⟩ => ⟨S8x2048x2048, .f32⟩
  | .hbm, ⟨14, _⟩ => ⟨S8x2048x2048, .f32⟩
  | .hbm, ⟨15, _⟩ => ⟨S8x2048x2048, .i32⟩
  | .hbm, ⟨16, _⟩ => ⟨S_, .f32⟩
  | .hbm, ⟨17, _⟩ => ⟨S_, .i32⟩
  | .hbm, ⟨18, _⟩ => ⟨S8x2048, .f32⟩
  | .hbm, ⟨19, _⟩ => ⟨S8x2048, .i32⟩
  | .hbm, ⟨20, _⟩ => ⟨S_, .f32⟩
  | .hbm, ⟨21, _⟩ => ⟨S8x2048, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_call1_v0 : Ref sig .tc := ⟨.hbm, 15, rfl⟩
abbrev main_call1_cst : Ref sig .tc := ⟨.hbm, 16, rfl⟩
abbrev main_call1_c : Ref sig .tc := ⟨.hbm, 17, rfl⟩
abbrev main_call1_v1_0 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Blocks.lean ====
/- What the body leaves in its output blocks and scratch buffers at each grid point, as the body's own payloads of the input blocks. -/
module

public import proofs.«01_k».proof.Defs
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ)

/-- The block indices of the four windows at a point: batch `t / 4`, quarter `t % 4`; the second window's depends on the batch alone. -/
theorem idx : ∀ t : Fin cfg0.N, win0_0.index t = ![t.val / 4, t.val % 4, 0] ∧ win0_1.index t = ![t.val / 4, 0, 0]
    ∧ win0_2.index t = ![t.val, 0, 0] ∧ win0_3.index t = ![t.val, 0, 0] :=
  (by decide +kernel : ∀ t : Fin grid0.N, _)

/-- Two points of one batch stage the same block of the second window. -/
theorem iblk1_eq (c : Dev nD) (t s : Fin cfg0.N) (h : t.val / 4 = s.val / 4) : iblk m c 1 t = iblk m c 1 s := by
  funext y
  blk_ext [iblk, V, idx t, idx s]

/-- After any point the scratch buffers hold the sums of squares and the stacked copies of the point's block of the second window. -/
theorem scratch (c : Dev nD) (n : ℕ) (h : n < cfg0.N) :
    (outsAt0 m c n h).2.2.1 = k0_pay3 (iblk m c 1 ⟨n, h⟩) ∧ (outsAt0 m c n h).2.2.2 = k0_pay4 (iblk m c 1 ⟨n, h⟩) := by
  induction n with
  | zero =>
    rw [outsAt0_A m c ⟨0, h⟩ rfl]
    constructor <;> frame_out
  | succ n ih =>
    by_cases h0 : (n + 1) % 4 = 0
    · rw [outsAt0_A m c ⟨n + 1, h⟩ h0]
      constructor <;> frame_out
    · have e : iblk m c 1 ⟨n + 1, h⟩ = iblk m c 1 ⟨n, Nat.lt_of_succ_lt h⟩ :=
        iblk1_eq m c _ _ (by dsimp only; omega)
      rw [outsAt0_B m c ⟨n + 1, h⟩ h0, e]
      dsimp only [sout0_B_0, sout0_B_1]
      exact ih _

/-- The first output's block after a point: the distance payload of the point's two input blocks. -/
theorem out2 (c : Dev nD) (t : Fin cfg0.N) : (outsAt0 m c t.val t.isLt).1
    = k0_pay9 (iblk m c 0 t) (k0_pay4 (iblk m c 1 t)) (k0_pay3 (iblk m c 1 t)) := by
  by_cases h0 : t.val % 4 = 0
  · rw [outsAt0_A m c t h0]; frame_out
  · rw [outsAt0_B m c t h0]
    have e : iblk m c 1 t = iblk m c 1 ⟨t.val - 1, Nat.lt_of_le_of_lt (Nat.sub_le _ _) t.isLt⟩ :=
      iblk1_eq m c _ _ (by dsimp only; omega)
    rw [(scratch m c _ _).1, (scratch m c _ _).2, ← e]
    frame_out; simp only [read_unread_whole]

/-- The second output's block after a point: the index payload of the point's two input blocks. -/
theorem out3 (c : Dev nD) (t : Fin cfg0.N) : (outsAt0 m c t.val t.isLt).2.1
    = k0_pay1 (k0_pay8 (iblk m c 0 t) (k0_pay4 (iblk m c 1 t)) (k0_pay3 (iblk m c 1 t))) := by
  by_cases h0 : t.val % 4 = 0
  · rw [outsAt0_A m c t h0]; frame_out
  · rw [outsAt0_B m c t h0]
    have e : iblk m c 1 t = iblk m c 1 ⟨t.val - 1, Nat.lt_of_le_of_lt (Nat.sub_le _ _) t.isLt⟩ :=
      iblk1_eq m c _ _ (by dsimp only; omega)
    rw [(scratch m c _ _).1, (scratch m c _ _).2, ← e]
    frame_out; simp only [read_unread_whole]

end Cert.KernelIdeal.Value

end
-- ==== Proof.Folds.lean ====
/- Folds that pick one of their operands, and the arithmetic of squared distances: plain mathematics, no program in it. -/
module

public import Idealize.ShloMosaic.PureOps.Reduce
public import Idealize.ShloMosaic.PureOps.Ideal.Laws
public import Idealize.ShloMosaic.Lib.WordArith

@[expose] public section

namespace Cert.Nearest

open Idealize.ShloMosaic

/-- A fold of a commutative, associative operation is `p` when `p` is one of the operands and absorbs the start and
    every operand. -/
theorem fold_eq_of_absorbs {ι α : Type} [DecidableEq ι] (op : α → α → α) [Std.Commutative op] [Std.Associative op]
    (s : Finset ι) (f : ι → α) (b p : α) (i : ι) (hi : i ∈ s) (hp : f i = p) (hb : op p b = p)
    (h : ∀ k ∈ s, op p (f k) = p) : s.fold op b f = p := by
  have key : ∀ u : Finset ι, (∀ k ∈ u, op p (f k) = p) → op p (u.fold op b f) = p := by
    intro u
    induction u using Finset.induction with
    | empty => intro _; simpa using hb
    | insert a u ha ih =>
      intro hu
      rw [Finset.fold_insert ha, ← Std.Associative.assoc (op := op), hu a (Finset.mem_insert_self a u)]
      exact ih fun k hk => hu k (Finset.mem_insert_of_mem hk)
  rw [← Finset.insert_erase hi, Finset.fold_insert (Finset.notMem_erase i s), hp]
  exact key _ fun k hk => h k (Finset.mem_of_mem_erase hk)

/-- A left fold of an operation that always returns one of its two operands is `p` when `p` is among the operands and
    beats the start and every operand, from either side. -/
theorem foldl_eq_of_beats {α : Type} (f : α → α → α) (sel : ∀ a b, f a b = a ∨ f a b = b) (p : α) (L : List α) :
    ∀ a : α, (∀ q ∈ L, f p q = p ∧ f q p = p) → (f p a = p ∧ f a p = p) → (a = p ∨ p ∈ L) → L.foldl f a = p := by
  induction L with
  | nil => intro a _ _ h; simpa using h
  | cons q L ih =>
    intro a hL ha hp
    have hq := hL q List.mem_cons_self
    have hL' : ∀ q ∈ L, f p q = p ∧ f q p = p := fun r hr => hL r (List.mem_cons_of_mem q hr)
    rw [List.foldl_cons]
    refine ih (f a q) hL' ?_ ?_
    · rcases sel a q with e | e <;> rw [e]
      · exact ha
      · exact hq
    · rcases hp with e | e
      · left; rw [e]; exact hq.1
      · rcases List.mem_cons.1 e with e | e
        · left; rw [← e]; exact ha.2
        · exact Or.inr e

/-- The first place where a finite family of reals is least. -/
theorem exists_first_min {n : ℕ} (hn : 0 < n) (d : Fin n → ℝ) :
    ∃ j, (∀ k, d j ≤ d k) ∧ ∀ k, k < j → d j < d k := by
  classical
  obtain ⟨i, -, hi⟩ := Finset.exists_min_image Finset.univ d ⟨⟨0, hn⟩, Finset.mem_univ _⟩
  have hne : (Finset.univ.filter fun j => d j = d i).Nonempty := ⟨i, by simp⟩
  have hm := Finset.min'_mem _ hne
  set j := Finset.min' _ hne with hj
  have hd : d j = d i := (Finset.mem_filter.1 hm).2
  refine ⟨j, fun k => hd ▸ hi k (Finset.mem_univ k), fun k hk => ?_⟩
  refine lt_of_le_of_ne (hd ▸ hi k (Finset.mem_univ k)) fun e => ?_
  exact absurd (Finset.min'_le _ k (by simp [← e, hd])) (not_le.2 hk)

/-- A finite sum of reals, read in the extended reals. -/
theorem coe_sum {ι : Type} (s : Finset ι) (f : ι → ℝ) : ((∑ i ∈ s, f i : ℝ) : EReal) = ∑ i ∈ s, (f i : EReal) := by
  classical
  induction s using Finset.induction with
  | empty => simp
  | insert a s ha ih => rw [Finset.sum_insert ha, Finset.sum_insert ha, EReal.coe_add, ih]

/-- The minimum over a family of reals in the extended reals, started at `⊤`, is the value at a place where the family is least. -/
theorem fold_min_coe {n : ℕ} (d : Fin n → ℝ) (j : Fin n) (h : ∀ k, d j ≤ d k) :
    (Finset.univ : Finset (Fin n)).fold min (⊤ : EReal) (fun k => (d k : EReal)) = (d j : EReal) :=
  fold_eq_of_absorbs min _ _ _ _ j (Finset.mem_univ j) rfl (min_eq_left le_top)
    fun k _ => min_eq_left (EReal.coe_le_coe_iff.2 (h k))

/-- The signed minimum of two words below 2³¹ is the lesser word. -/
theorem minsi_ofNat_eq_left {a b : ℕ} (ha : a < 2 ^ 31) (hb : b < 2 ^ 31) (h : a ≤ b) :
    IntOp.minsi (BitVec.ofNat 32 a) (BitVec.ofNat 32 b) = BitVec.ofNat 32 a := by
  have ea : (BitVec.ofNat 32 a).toNat = a := by rw [BitVec.toNat_ofNat]; omega
  have eb : (BitVec.ofNat 32 b).toNat = b := by rw [BitVec.toNat_ofNat]; omega
  apply BitVec.eq_of_toNat_eq
  rw [WordArith.toNat_minsi_of_lt _ _ (by omega) (by omega), ea, eb, min_eq_left h]

/-- The signed minimum, from the greatest word, of the words that hold the row where `c` holds and the count elsewhere is
    the first row where `c` holds. -/
theorem fold_minsi_first {n : ℕ} (hn : n < 2 ^ 31) (c : Fin n → Prop) [DecidablePred c] (j : Fin n) (hj : c j)
    (h : ∀ k, k < j → ¬ c k) :
    (Finset.univ : Finset (Fin n)).fold IntOp.minsi 2147483647#32 (fun k => if c k then BitVec.ofNat 32 k.val else BitVec.ofNat 32 n)
      = BitVec.ofNat 32 j.val := by
  have hj' := j.isLt
  refine fold_eq_of_absorbs IntOp.minsi _ _ _ _ j (Finset.mem_univ j) (if_pos hj)
    (minsi_ofNat_eq_left (b := 2147483647) (by omega) (by omega) (by omega)) fun k _ => ?_
  have hk' := k.isLt
  split
  · rename_i hk
    exact minsi_ofNat_eq_left (by omega) (by omega) (not_lt.1 fun hlt => h k hlt hk)
  · exact minsi_ofNat_eq_left (by omega) hn (by omega)

/-- The pairs an arg-reduction folds for a result index are those at the source indices that drop to it. -/
theorem mem_argReduceFiber {α β : Type} {s t : Shape} {axes : List (Fin s.rank)} (x : s.Idx → α) (y : s.Idx → β)
    (h : s.ReducesTo axes t) (j : t.Idx) (q : α × β) :
    q ∈ Host.argReduceFiber x y h j ↔ ∃ i, h.drop i = j ∧ q = (x i, y i) := by
  unfold Host.argReduceFiber
  constructor
  · intro hq
    obtain ⟨n, hn, rfl⟩ := List.mem_map.1 hq
    exact ⟨_, of_decide_eq_true (List.mem_filter.1 hn).2, rfl⟩
  · rintro ⟨i, hi, rfl⟩
    refine List.mem_map.2 ⟨s.rowMajor i, List.mem_filter.2 ⟨List.mem_finRange _, decide_eq_true ?_⟩, ?_⟩
    · rw [Equiv.symm_apply_apply]; exact hi
    · rw [Equiv.symm_apply_apply]

/-- An arg-reduction by a comparison that returns one of its two pairs is the pair `p` when `p` is among the pairs folded and
    beats the start and every pair, from either side. -/
theorem argReduce_eq_of_beats {s t u : Shape} {axes : List (Fin s.rank)} {β : Type} {φ : FTy}
    (f : Ideal φ × β → Ideal φ × β → Ideal φ × β) (sel : ∀ a b, f a b = a ∨ f a b = b) (x : FVec Ideal s φ) (y : s.Idx → β)
    (ix : u.Idx → Ideal φ) (iy : u.Idx → β) (h : s.ReducesTo axes t) (hu : 0 < u.numel) (j : t.Idx) (p z : Ideal φ × β)
    (hz : (ix (Shape.Idx.first hu), iy (Shape.Idx.first hu)) = z) (hmem : p ∈ Host.argReduceFiber x y h j)
    (hall : ∀ q ∈ Host.argReduceFiber x y h j, f p q = p ∧ f q p = p) (hstart : f p z = p ∧ f z p = p) :
    Host.argReduce f x y ix iy h hu j = p := by
  rw [Ideal.argReduce_eq_reduce2, Host.reduce2_eq_foldl_fiber, hz]
  exact foldl_eq_of_beats f sel p _ z hall hstart (Or.inr hmem)

/-- The signed comparison of two words below 2³¹ is that of the numbers. -/
theorem slt_ofNat {a b : ℕ} (ha : a < 2 ^ 31) (hb : b < 2 ^ 31) :
    (BitVec.ofNat 32 a).slt (BitVec.ofNat 32 b) = true ↔ a < b := by
  have ea : (BitVec.ofNat 32 a).toNat = a := by rw [BitVec.toNat_ofNat]; omega
  have eb : (BitVec.ofNat 32 b).toNat = b := by rw [BitVec.toNat_ofNat]; omega
  rw [BitVec.slt_iff_toInt_lt, BitVec.toInt_eq_toNat_of_lt (by omega), BitVec.toInt_eq_toNat_of_lt (by omega), ea, eb]
  exact Int.ofNat_lt

/-- The squared distance of two points of 128 real coordinates. -/
noncomputable def dist2 (x y : Fin 128 → ℝ) : ℝ := ∑ k, (x k - y k) * (x k - y k)

/-- A squared distance is not negative. -/
theorem dist2_nonneg (x y : Fin 128 → ℝ) : 0 ≤ dist2 x y := Finset.sum_nonneg fun _ _ => mul_self_nonneg _

/-- The expanded form: the cross term times minus two, and the two sums of squares. -/
theorem dist2_expand (x y : Fin 128 → ℝ) :
    (∑ k, y k * (x k * -2)) + ∑ k, y k * y k = dist2 x y - ∑ k, x k * x k := by
  unfold dist2
  rw [← Finset.sum_add_distrib, ← Finset.sum_sub_distrib]
  exact Finset.sum_congr rfl fun k _ => by ring

end Cert.Nearest
-- ==== Proof.Payloads.lean ====
/- What the kernel's body computes at one grid point, at the ideal instance, from a block of 512 points and a block of
   2048 samples whose coordinates are all real numbers. -/
module

public import proofs.«01_k».proof.Proof.Gen.KernelIdeal.Skeleton
public import proofs.«01_k».proof.Proof.Folds
public import Idealize.ShloMosaic.Lib.Pointwise

@[expose] public section

set_option maxRecDepth 16384

noncomputable section

namespace Cert.KernelIdeal.Body

open Idealize.ShloMosaic Idealize.ShloMosaic.TcCoe Idealize.SL.Sem
open Cert.KernelIdeal Cert.KernelIdeal.Gen Cert.Nearest

/-- The constant the points are multiplied by is minus two. -/
theorem ofBits_neg_two : Ideal.ofBits .f32 0xC0000000#32 = ((-2 : ℝ) : EReal) := by
  simp [Ideal.ofBits, Ideal.ieee, -EReal.coe_mul]; norm_num

/-- The constant a minimum starts from is the greatest extended real. -/
theorem ofBits_top : Ideal.ofBits .f32 0x7F800000#32 = ⊤ := by simp [Ideal.ofBits, Ideal.ieee]

variable (x : FVec Ideal S1x512x128 .f32) (y : FVec Ideal S1x2048x128 .f32)
  (xr : Fin 512 → Fin 128 → ℝ) (yr : Fin 2048 → Fin 128 → ℝ)
  (hx : ∀ r k, x (ix3 0 r k) = ((xr r k : ℝ) : EReal)) (hy : ∀ j k, y (ix3 0 j k) = ((yr j k : ℝ) : EReal))

include hx hy

/-- Row `j`, column `r` of the kernel's reduced squared distances: the squared distance of sample `j` and point `r`,
    less the point's own sum of squares. The two correction blocks of the three-block product vanish, a real number less
    itself being zero. -/
theorem reduced_at (j : Fin 2048) (r : Fin 512) :
    k0_pay6 (F := Ideal) x (k0_pay4 (F := Ideal) y) (k0_pay3 (F := Ideal) y) (ix2 j r)
      = ((dist2 (xr r) (yr j) - ∑ k, xr r k * xr r k : ℝ) : EReal) := by
  pointwise [k0_pay6, k0_pay5, k0_pay4, k0_pay3, k0_pay2]
  rw [ofBits_neg_two, ← dist2_expand, EReal.coe_add, coe_sum, coe_sum]
  refine congrArg₂ (· + ·) ?_ (Finset.sum_congr rfl fun k _ => by rw [hy, EReal.coe_mul])
  rw [Fin.sum_univ_tiles 3 128 rfl, Fin.sum_univ_three]
  have self : ∀ a : ℝ, (a : EReal) - (a : EReal) = 0 := fun a => by rw [← EReal.coe_sub, sub_self, EReal.coe_zero]
  refine Eq.trans (congrArg₂ (· + ·) (congrArg₂ (· + ·) (x' := ∑ k, ((yr j k * (xr r k * -2) : ℝ) : EReal))
    (Finset.sum_congr rfl fun t _ => ?_) (Finset.sum_eq_zero fun t _ => ?_)) (Finset.sum_eq_zero fun t _ => ?_))
    (by rw [add_zero, add_zero])
  all_goals simp only [Fin.val_zero, Fin.val_one, Fin.val_two, hx, hy]
  · have h : (t : ℕ) < 128 := t.isLt
    simp only [zero_mul, zero_add, dif_pos h, ← EReal.coe_mul, Fin.eta]
  · have h : ¬ 1 * 128 + (t : ℕ) < 128 := by omega
    have h' : 1 * 128 + (t : ℕ) - 128 < 128 := by omega
    simp only [dif_neg h, dif_pos h', ← EReal.coe_mul, self, mul_zero]
  · have h : ¬ 2 * 128 + (t : ℕ) < 128 := by omega
    have h' : ¬ 2 * 128 + (t : ℕ) - 128 < 128 := by omega
    simp only [dif_neg h, dif_neg h', self, zero_mul]

/-- The minimum over the samples of the reduced squared distances to point `r`, where sample `j` is nearest. -/
theorem reduced_min (r : Fin 512) (j : Fin 2048) (h : ∀ k, dist2 (xr r) (yr j) ≤ dist2 (xr r) (yr k)) :
    (Finset.univ : Finset (Fin 2048)).fold min (Ideal.ofBits .f32 2139095040#32)
        (fun k => k0_pay6 (F := Ideal) x (k0_pay4 (F := Ideal) y) (k0_pay3 (F := Ideal) y) (ix2 k r))
      = ((dist2 (xr r) (yr j) - ∑ k, xr r k * xr r k : ℝ) : EReal) := by
  rw [ofBits_top, funext fun k => reduced_at x y xr yr hx hy k r]
  exact fold_min_coe (fun k => dist2 (xr r) (yr k) - ∑ k, xr r k * xr r k) j fun k => sub_le_sub_right (h k) _

/-- The distance the body stores for point `r`: the root of the squared distance to the nearest sample. -/
theorem dist_at (r : Fin 512) (j : Fin 2048) (h : ∀ k, dist2 (xr r) (yr j) ≤ dist2 (xr r) (yr k)) :
    k0_pay9 (F := Ideal) x (k0_pay4 (F := Ideal) y) (k0_pay3 (F := Ideal) y) (ix3 0 0 r)
      = ((Real.sqrt (dist2 (xr r) (yr j)) : ℝ) : EReal) := by
  pointwise [k0_pay9, k0_pay7, k0_pay5]
  have e : ∑ k, x (ix3 0 r k) * x (ix3 0 r k) = ((∑ k, xr r k * xr r k : ℝ) : EReal) := by
    rw [coe_sum]; exact Finset.sum_congr rfl fun k _ => by rw [hx, EReal.coe_mul]
  have h0 := dist2_nonneg (xr r) (yr j)
  rw [reduced_min x y xr yr hx hy r j h, e, ← EReal.coe_add, add_sub_cancel, max_eq_left (EReal.coe_nonneg.2 h0),
    Ideal.sqrt_coe, if_neg (not_lt.2 h0)]

/-- The row the body stores for point `r`: the first nearest sample. -/
theorem row_at (r : Fin 512) (j : Fin 2048) (h : ∀ k, dist2 (xr r) (yr j) ≤ dist2 (xr r) (yr k))
    (hf : ∀ k, k < j → dist2 (xr r) (yr j) < dist2 (xr r) (yr k)) :
    k0_pay1 (k0_pay8 (F := Ideal) x (k0_pay4 (F := Ideal) y) (k0_pay3 (F := Ideal) y)) (ix3 0 0 r) = BitVec.ofNat 32 j.val := by
  pointwise [k0_pay8, k0_pay7, k0_pay1]
  rw [reduced_min x y xr yr hx hy r j h]
  simp only [reduced_at x y xr yr hx hy, EReal.coe_le_coe_iff, sub_le_sub_iff_right]
  exact fold_minsi_first (by norm_num) (fun k => dist2 (xr r) (yr k) ≤ dist2 (xr r) (yr j)) j le_rfl
    fun k hk => not_le.2 (hf k hk)

end Cert.KernelIdeal.Body

end
-- ==== Proof.Reference.lean ====
/- What the reference computes, at the ideal instance: its composed terms over the three arguments, read at an index. -/
module

public import proofs.«01_k».proof.Proof.Gen.ReferenceIdeal
public import proofs.«01_k».proof.Proof.Payloads

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.Nearest

/-- The points: the data where the mask holds, the noisy data elsewhere. -/
def points (N D : FVec Ideal S8x2048x128 .f32) (M : IVec S128 1) : FVec Ideal S8x2048x128 .f32 :=
  select (broadcastInDim S8x2048x128 ![0, 1, 2] bcast_S1x1x128_S8x2048x128_0_1_2 (broadcastInDim S1x1x128 ![2] bcast_S128_S1x1x128_2 M)) D N

/-- The difference of every point and every sample, coordinate by coordinate. -/
def diffs (X D : FVec Ideal S8x2048x128 .f32) : FVec Ideal S8x2048x2048x128 .f32 :=
  subf
    (broadcastInDim S8x2048x2048x128 ![0, 1, 2, 3] bcast_S8x2048x1x128_S8x2048x2048x128_0_1_2_3
      (broadcastInDim S8x2048x1x128 ![0, 1, 3] bcast_S8x2048x128_S8x2048x1x128_0_1_3 X))
    (broadcastInDim S8x2048x2048x128 ![0, 1, 2, 3] bcast_S8x1x2048x128_S8x2048x2048x128_0_1_2_3
      (broadcastInDim S8x1x2048x128 ![0, 2, 3] bcast_S8x2048x128_S8x1x2048x128_0_2_3 D))

/-- The distance of every point and every sample. -/
def dists (X D : FVec Ideal S8x2048x128 .f32) : FVec Ideal S8x2048x2048 .f32 :=
  Host.sqrt (Host.reduceAdd (mulf (diffs X D) (diffs X D)) (constant S_ .f32 0x00000000#32) reducesTo_S8x2048x2048x128_S8x2048x2048_d3 h_S_)

/-- The reference's first result: each point's least distance. -/
def minDist (X D : FVec Ideal S8x2048x128 .f32) : FVec Ideal S8x2048 .f32 :=
  Host.reduce FloatOps.minimumf (dists X D) (constant S_ .f32 0x7F800000#32) reducesTo_S8x2048x2048_S8x2048_d2 h_S_

/-- The pairs of least distance and first sample at that distance. -/
def argPairs (X D : FVec Ideal S8x2048x128 .f32) : S8x2048.Idx → Ideal .f32 × BitVec 32 :=
  Host.argReduce reducer_argmin_f32_i32 (dists X D) (iotaInDim S8x2048x2048 32 2) (constant S_ .f32 0x7F800000#32)
    (constantI S_ 32 0#32) reducesTo_S8x2048x2048_S8x2048_d2 h_S_

/-- The reference's second result: the first sample at the least distance. -/
def argMin (X D : FVec Ideal S8x2048x128 .f32) : IVec S8x2048 32 := fun j => (argPairs X D j).2

/-- The second result, as the second components of the pairs. -/
theorem argMin_eq (X D : FVec Ideal S8x2048x128 .f32) : argMin X D = fun j => (argPairs X D j).2 := rfl

variable (X D : FVec Ideal S8x2048x128 .f32) (xr yr : Fin 8 → Fin 2048 → Fin 128 → ℝ)
  (hx : ∀ b r k, X (ix3 b r k) = ((xr b r k : ℝ) : EReal)) (hy : ∀ b j k, D (ix3 b j k) = ((yr b j k : ℝ) : EReal))

include hx hy

/-- The distance of point `r` and sample `j` of batch `b` is the root of their squared distance. -/
theorem dists_at (b : Fin 8) (r j : Fin 2048) :
    dists X D (ix3 b r j) = ((Real.sqrt (dist2 (xr b r) (yr b j)) : ℝ) : EReal) := by
  pointwise [dists, diffs]
  have e : ∑ k, (X (ix3 b r k) - D (ix3 b j k)) * (X (ix3 b r k) - D (ix3 b j k)) = ((dist2 (xr b r) (yr b j) : ℝ) : EReal) := by
    unfold dist2
    rw [coe_sum]
    exact Finset.sum_congr rfl fun k _ => by rw [hx, hy, ← EReal.coe_sub, EReal.coe_mul]
  exact (congrArg Ideal.sqrt e).trans ((Ideal.sqrt_coe _).trans (if_neg (not_lt.2 (dist2_nonneg _ _))))

/-- The least distance of point `r` of batch `b` is the distance to sample `j`, a nearest one. -/
theorem minDist_at (b : Fin 8) (r j : Fin 2048) (h : ∀ k, dist2 (xr b r) (yr b j) ≤ dist2 (xr b r) (yr b k)) :
    minDist X D (ix2 b r) = ((Real.sqrt (dist2 (xr b r) (yr b j)) : ℝ) : EReal) := by
  pointwise [minDist]
  rw [Cert.KernelIdeal.Body.ofBits_top]
  simp only [dists_at X D xr yr hx hy]
  exact fold_min_coe (fun k => Real.sqrt (dist2 (xr b r) (yr b k))) j fun k => Real.sqrt_le_sqrt (h k)

omit hx hy in
/-- The reference's comparison keeps its first pair exactly when that pair's value is less, or equal with the lesser index. -/
theorem reducer_eq (a b : Ideal .f32 × BitVec 32) :
    reducer_argmin_f32_i32 a b = if a.1 < b.1 ∨ a.1 = b.1 ∧ a.2.slt b.2 = true then a else b := by
  obtain ⟨x, i⟩ := a
  obtain ⟨y, k⟩ := b
  simp only [reducer_argmin_f32_i32, Ideal.cmpf_def, Ideal.cmp, IntOp.ori, IntOp.andi, IntOp.cmpi]
  rcases lt_trichotomy x y with h | h | h
  · rw [if_pos (Or.inl h)]
    generalize BitVec.ofBool (decide (x = y)) &&& BitVec.ofBool (i.slt k) = w
    have e : BitVec.ofBool (decide (x < y)) ||| BitVec.ofBool (decide (x ≠ x)) = 1#1 := by simp [h]
    have e' : (1#1 : BitVec 1) ||| w = 1#1 := by revert w; decide
    rw [e, e']; rfl
  · subst h
    by_cases hs : i.slt k = true <;> simp [hs, Scalar.select]
  · simp [h.not_gt, h.ne', Scalar.select]

omit hx hy in
/-- A source index drops to `(b, r)` exactly when it is `(b, r, k)` for some `k`. -/
theorem drop_iff (i : S8x2048x2048.Idx) (b : Fin 8) (r : Fin 2048) :
    reducesTo_S8x2048x2048_S8x2048_d2.drop i = ix2 b r ↔ ∃ k, i = ix3 b r k := by
  constructor
  · intro hd
    have e0 : i 0 = b := Fin.ext ((Shape.ReducesTo.drop_apply_val_of_eq reducesTo_S8x2048x2048_S8x2048_d2 i 0 0).symm.trans (congrArg (fun z : S8x2048.Idx => (z 0 : ℕ)) hd))
    have e1 : i 1 = r := Fin.ext ((Shape.ReducesTo.drop_apply_val_of_eq reducesTo_S8x2048x2048_S8x2048_d2 i 1 1).symm.trans (congrArg (fun z : S8x2048.Idx => (z 1 : ℕ)) hd))
    refine ⟨i 2, ?_⟩
    funext a; match a with
    | ⟨0, _⟩ => exact e0
    | ⟨1, _⟩ => exact e1
    | ⟨2, _⟩ => rfl
  · rintro ⟨k, rfl⟩
    funext a; match a with
    | ⟨0, _⟩ => exact Fin.ext (Shape.ReducesTo.drop_apply_val_of_eq reducesTo_S8x2048x2048_S8x2048_d2 (ix3 b r k) 0 0)
    | ⟨1, _⟩ => exact Fin.ext (Shape.ReducesTo.drop_apply_val_of_eq reducesTo_S8x2048x2048_S8x2048_d2 (ix3 b r k) 1 1)

/-- What the reference's arg-reduction folds for point `r` of batch `b`: the pairs of the distance to a sample and its index. -/
theorem mem_pairs (b : Fin 8) (r : Fin 2048) (q : Ideal .f32 × BitVec 32) :
    q ∈ Host.argReduceFiber (dists X D) (iotaInDim S8x2048x2048 32 2) reducesTo_S8x2048x2048_S8x2048_d2 (ix2 b r)
      ↔ ∃ k : Fin 2048, q = (((Real.sqrt (dist2 (xr b r) (yr b k)) : ℝ) : EReal), BitVec.ofNat 32 k.val) := by
  have e : ∀ k, (dists X D (ix3 b r k), iotaInDim S8x2048x2048 32 2 (ix3 b r k))
      = (((Real.sqrt (dist2 (xr b r) (yr b k)) : ℝ) : EReal), BitVec.ofNat 32 k.val) := fun k => by
    rw [dists_at X D xr yr hx hy]
    pointwise [iotaInDim]
  rw [mem_argReduceFiber]
  constructor
  · rintro ⟨i, hi, hq⟩
    obtain ⟨k, rfl⟩ := (drop_iff i b r).1 hi
    exact ⟨k, hq.trans (e k)⟩
  · rintro ⟨k, hq⟩
    exact ⟨_, (drop_iff _ b r).2 ⟨k, rfl⟩, hq.trans (e k).symm⟩

/-- The first nearest sample of point `r` of batch `b` is sample `j`. -/
theorem argMin_at (b : Fin 8) (r j : Fin 2048) (h : ∀ k, dist2 (xr b r) (yr b j) ≤ dist2 (xr b r) (yr b k))
    (hf : ∀ k, k < j → dist2 (xr b r) (yr b j) < dist2 (xr b r) (yr b k)) :
    argMin X D (ix2 b r) = BitVec.ofNat 32 j.val := by
  have hfib := mem_pairs X D xr yr hx hy b r
  have hj := j.isLt
  have et : (constant (F := Ideal) S_ .f32 0x7F800000#32) (Shape.Idx.first h_S_) = (⊤ : EReal) := Cert.KernelIdeal.Body.ofBits_top
  have e : argPairs X D (ix2 b r) = (((Real.sqrt (dist2 (xr b r) (yr b j)) : ℝ) : EReal), BitVec.ofNat 32 j.val) := by
    unfold argPairs
    refine argReduce_eq_of_beats reducer_argmin_f32_i32 (fun a b => by rw [reducer_eq]; split <;> simp) _ _ _ _ _ _ _
      _ (⊤, 0#32) (Prod.ext et rfl) ((hfib _).2 ⟨j, rfl⟩) ?_ ?_
    · intro q hq
      obtain ⟨k, rfl⟩ := (hfib q).1 hq
      have hk := k.isLt
      simp only [reducer_eq, EReal.coe_lt_coe_iff, EReal.coe_eq_coe_iff, slt_ofNat (a := j.val) (b := k.val) (by omega) (by omega),
        slt_ofNat (a := k.val) (b := j.val) (by omega) (by omega)]
      rcases lt_trichotomy j k with hjk | hjk | hjk
      · have hle := Real.sqrt_le_sqrt (h k)
        rcases hle.lt_or_eq with hlt | heq
        · simp [hlt, hlt.not_gt, hlt.ne']
        · have hjk' : j.val < k.val := hjk
          simp [heq, hjk', hjk'.not_gt]
      · subst hjk; simp
      · have hlt := Real.sqrt_lt_sqrt (dist2_nonneg _ _) (hf k hjk)
        simp [hlt, hlt.not_gt, hlt.ne']
    · simp only [reducer_eq]
      have hlt := EReal.coe_lt_top (Real.sqrt (dist2 (xr b r) (yr b j)))
      refine ⟨if_pos (Or.inl hlt), if_neg ?_⟩
      rintro (h' | h')
      · exact absurd h' hlt.not_gt
      · exact absurd h'.1 hlt.ne'
  exact (congrFun (argMin_eq X D) (ix2 b r)).trans (congrArg Prod.snd e)

end Cert.ReferenceIdeal.Value

end
-- ==== Proof.Arrays.lean ====
/- The two result arrays of the kernel, after the pipeline and after the two reshapes that follow it. -/
module

public import proofs.«01_k».proof.Proof.Blocks
public import proofs.«01_k».proof.Proof.Reference
public import Idealize.ShloMosaic.Lib.Pointwise

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Nearest
open Cert.ReferenceIdeal.Value (points minDist argMin minDist_at argMin_at)

variable (m : (ℓ : Loc nD τ sig) → Buf (Elt Ideal) ℓ) (c : Dev nD)

/-- The samples, as the kernel's second argument holds them. -/
def samples : FVec Ideal S8x2048x128 .f32 := m ((c.tc : Thread nD τ).loc main_arg1)

/-- The points of the kernel's three arguments. -/
def pts : FVec Ideal S8x2048x128 .f32 :=
  points (m ((c.tc : Thread nD τ).loc main_arg0)) (m ((c.tc : Thread nD τ).loc main_arg1)) (m ((c.tc : Thread nD τ).loc main_arg2))

/-- The array of the first window, computed before the pipeline, holds the points. -/
theorem entry0 : V m c main_v1 = pts m c := by
  entry_read
  rfl

/-- The row of a point in its batch. -/
theorem row_lt (t : Fin cfg0.N) (r : Fin 512) : t.val % 4 * 512 + r.val < 2048 := by
  have := r.isLt
  omega

/-- The batch of a grid point. -/
theorem batch_lt (t : Fin cfg0.N) : t.val / 4 < 8 := by
  have h : t.val < 32 := t.isLt
  omega

/-- The first window's block at a grid point: 512 points of one batch. -/
theorem iblk0_at (t : Fin cfg0.N) (r : Fin 512) (k : Fin 128) :
    iblk m c 0 t (ix3 0 r k) = pts m c (ix3 ⟨t.val / 4, batch_lt t⟩ ⟨t.val % 4 * 512 + r.val, row_lt t r⟩ k) := by
  rw [← entry0]
  blk_ext [iblk, idx t]

/-- The second window's block at a grid point: the samples of one batch. -/
theorem iblk1_at (t : Fin cfg0.N) (j : Fin 2048) (k : Fin 128) :
    iblk m c 1 t (ix3 0 j k) = samples m c (ix3 ⟨t.val / 4, batch_lt t⟩ j k) := by
  unfold samples
  blk_ext [iblk, V, idx t]

variable (xr yr : Fin 8 → Fin 2048 → Fin 128 → ℝ)
  (hx : ∀ b r k, pts m c (ix3 b r k) = ((xr b r k : ℝ) : EReal)) (hy : ∀ b j k, samples m c (ix3 b j k) = ((yr b j k : ℝ) : EReal))

include hx hy

/-- What the body leaves in the first output's block: the least distances of the block's points. -/
theorem out2_at (t : Fin cfg0.N) (r : Fin 512) : (outsAt0 m c t.val t.isLt).1 (ix3 0 0 r)
    = minDist (pts m c) (samples m c) (ix2 ⟨t.val / 4, batch_lt t⟩ ⟨t.val % 4 * 512 + r.val, row_lt t r⟩) := by
  obtain ⟨j, hj, -⟩ := exists_first_min (n := 2048) (by decide)
    fun j => dist2 (xr ⟨t.val / 4, batch_lt t⟩ ⟨t.val % 4 * 512 + r.val, row_lt t r⟩) (yr ⟨t.val / 4, batch_lt t⟩ j)
  rw [out2, minDist_at _ _ xr yr hx hy _ _ j hj]
  exact Body.dist_at _ _ (fun r k => xr ⟨t.val / 4, batch_lt t⟩ ⟨t.val % 4 * 512 + r.val, row_lt t r⟩ k) (fun j k => yr ⟨t.val / 4, batch_lt t⟩ j k)
    (fun r k => (iblk0_at m c t r k).trans (hx _ _ _)) (fun j k => (iblk1_at m c t j k).trans (hy _ _ _)) r j hj

/-- What the body leaves in the second output's block: the first nearest samples of the block's points. -/
theorem out3_at (t : Fin cfg0.N) (r : Fin 512) : (outsAt0 m c t.val t.isLt).2.1 (ix3 0 0 r)
    = argMin (pts m c) (samples m c) (ix2 ⟨t.val / 4, batch_lt t⟩ ⟨t.val % 4 * 512 + r.val, row_lt t r⟩) := by
  obtain ⟨j, hj, hf⟩ := exists_first_min (n := 2048) (by decide)
    fun j => dist2 (xr ⟨t.val / 4, batch_lt t⟩ ⟨t.val % 4 * 512 + r.val, row_lt t r⟩) (yr ⟨t.val / 4, batch_lt t⟩ j)
  rw [out3, argMin_at _ _ xr yr hx hy _ _ j hj hf]
  exact Body.row_at _ _ (fun r k => xr ⟨t.val / 4, batch_lt t⟩ ⟨t.val % 4 * 512 + r.val, row_lt t r⟩ k) (fun j k => yr ⟨t.val / 4, batch_lt t⟩ j k)
    (fun r k => (iblk0_at m c t r k).trans (hx _ _ _)) (fun j k => (iblk1_at m c t j k).trans (hy _ _ _)) r j hj hf

omit hx hy in
/-- The point an index of an output array stands for: its batch and its row there. -/
def place (i : S32x1x512.Idx) : S8x2048.Idx :=
  ix2 ⟨(i 0).val / 4, by have h : (i 0).val < 32 := (i 0).isLt; omega⟩
    ⟨(i 0).val % 4 * 512 + (i 2).val, by have h : (i 2).val < 512 := (i 2).isLt; omega⟩

omit hx hy in
/-- An index of a 1×1×512 block is its last coordinate. -/
theorem eq_ix3 (y : S1x1x512.Idx) : y = ix3 0 0 (y 2) := by
  funext a; match a with
  | ⟨0, _⟩ => exact Subsingleton.elim (α := Fin 1) _ _
  | ⟨1, _⟩ => exact Subsingleton.elim (α := Fin 1) _ _
  | ⟨2, _⟩ => rfl

/-- The first output array after the pipeline: the least distances. -/
theorem arr2 : (dats m 0 c).arrAt 2 cfg0.N = fun i : S32x1x512.Idx => minDist (pts m c) (samples m c) (place i) := by
  refine (dats m 0 c).arrAt_eq_of_covers 2 _ (by decide +kernel) fun t hf y => ?_
  blk_simp
  rw [after0_2]
  refine (congrArg (outsAt0 m c t.val t.isLt).1 (eq_ix3 y)).trans ((out2_at m c xr yr hx hy t (y 2)).trans (congrArg _ ?_))
  unfold place
  blk_ext [idx t]

/-- The second output array after the pipeline: the first nearest samples. -/
theorem arr3 : (dats m 0 c).arrAt 3 cfg0.N = fun i : S32x1x512.Idx => argMin (pts m c) (samples m c) (place i) := by
  refine (dats m 0 c).arrAt_eq_of_covers 3 _ (by decide +kernel) fun t hf y => ?_
  blk_simp
  rw [after0_3]
  refine (congrArg (outsAt0 m c t.val t.isLt).2.1 (eq_ix3 y)).trans ((out3_at m c xr yr hx hy t (y 2)).trans (congrArg _ ?_))
  unfold place
  blk_ext [idx t]

omit hx hy in
/-- Reading an array of 32×1×512 as 8×2048 undoes the placing of its indices. -/
theorem reshape_place {α : Type} (f : S8x2048.Idx → α) : shapeCast S8x2048 (fun i : S32x1x512.Idx => f (place i)) shapeCasts_S32x1x512_S8x2048 = f := by
  funext j
  pointwise [place]
  refine congrArg f ?_
  blk_ext []

omit hx hy in
/-- The first result after the two reshapes is the first output array, reshaped. -/
theorem after_v3 (W : Valuation τ sig (Elt Ideal)) : StableHlo.after hostOps1 W (Proc.devRef .tc main_v3)
    = shapeCast S8x2048 (W (Proc.devRef .tc main_v2_0)) shapeCasts_S32x1x512_S8x2048 := by
  after_results
  rfl

omit hx hy in
/-- The second result after the two reshapes is the second output array, reshaped. -/
theorem after_v4 (W : Valuation τ sig (Elt Ideal)) : StableHlo.after hostOps1 W (Proc.devRef .tc main_v4)
    = shapeCast S8x2048 (W (Proc.devRef .tc main_v2_1)) shapeCasts_S32x1x512_S8x2048 := by
  after_results
  rfl

/-- The kernel's first result: the reference's least distances of the kernel's points and samples. -/
theorem result0 : Pipeline.afterTail₀ cfgs (dats m) 0 (V0 m) [hostOps1] c main_v3 = minDist (pts m c) (samples m c) := by
  unfold Pipeline.afterTail₀
  rw [← reshape_place (minDist (pts m c) (samples m c)), ← arr2 m c xr yr hx hy]
  refine (after_v3 _).trans (congrArg (fun A => shapeCast S8x2048 A shapeCasts_S32x1x512_S8x2048) ?_)
  exact Pipeline.withArrays_arr spec0 launch0.win.arr_inj c (V0 m c) (fun w => (dats m 0 c).arrAt w cfg0.N) 2

/-- The kernel's second result: the reference's first nearest samples of the kernel's points and samples. -/
theorem result1 : Pipeline.afterTail₀ cfgs (dats m) 0 (V0 m) [hostOps1] c main_v4 = argMin (pts m c) (samples m c) := by
  unfold Pipeline.afterTail₀
  rw [← reshape_place (argMin (pts m c) (samples m c)), ← arr3 m c xr yr hx hy]
  refine (after_v4 _).trans (congrArg (fun A => shapeCast S8x2048 A shapeCasts_S32x1x512_S8x2048) ?_)
  exact Pipeline.withArrays_arr spec0 launch0.win.arr_inj c (V0 m c) (fun w => (dats m 0 c).arrAt w cfg0.N) 3

end Cert.KernelIdeal.Value

end
-- ==== Proof.Finite.lean ====
/- What the precondition gives: every sample of both arrays is a real number, and so is every point. -/
module

public import proofs.«01_k».proof.Defs
public import proofs.«01_k».proof.Proof.Reference
public import Idealize.ShloMosaic.Lib.ReduceAll

@[expose] public section

set_option maxRecDepth 16384

noncomputable section

namespace Cert.Pre_finite_samples

open Idealize.ShloMosaic Cert.Nearest

/-- The shape relations the precondition's operations take hold. -/
instance pre_facts : Facts where
  bcast_S_S8x2048x128 := by decide
  reducesTo_S8x2048x128_S_d0_1_2 := by decide
  h_S_ := by decide

/-- An extended real whose absolute value is below `⊤` is a real. -/
theorem real_of_abs_lt (a : Ideal .f32) (h : FloatOps.cmpf .olt (FloatOps.absf a) (Scalar.ofBits .f32 0x7F800000#32) = 1#1) :
    ∃ r : ℝ, a = ((r : ℝ) : EReal) := by
  have h' : BitVec.ofBool (decide (max a (-a) < (⊤ : EReal))) = 1#1 := by
    rw [← Cert.KernelIdeal.Body.ofBits_top]; exact h
  have hlt : max a (-a) < (⊤ : EReal) := by
    by_contra hn
    rw [decide_eq_false hn] at h'
    exact absurd h' (by decide)
  induction a using EReal.rec with
  | bot => simp at hlt
  | top => simp at hlt
  | coe r => exact ⟨r, rfl⟩

/-- The precondition makes every entry of the noisy data and of the data a real. -/
theorem real_of_pre (N D : FVec Ideal S8x2048x128 .f32) (M : IVec S128 1) (h : fn (F := Ideal) N D M = fun _ => 1#1) :
    (∀ i, ∃ r : ℝ, N i = ((r : ℝ) : EReal)) ∧ ∀ i, ∃ r : ℝ, D i = ((r : ℝ) : EReal) := by
  haveI : Subsingleton S_.Idx := ⟨fun a b => funext fun k => k.elim0⟩
  obtain ⟨h0, h1⟩ := IntOp.andi_eq_one.1 (congrFun h (fun k => k.elim0))
  exact ⟨fun i => real_of_abs_lt _ (Host.reduce_andi_all _ _ _ _ _ h0 i), fun i => real_of_abs_lt _ (Host.reduce_andi_all _ _ _ _ _ h1 i)⟩

/-- With both arrays real, every point is real: it is an entry of one of the two. -/
theorem real_points (N D : FVec Ideal S8x2048x128 .f32) (M : IVec S128 1) (hN : ∀ i, ∃ r : ℝ, N i = ((r : ℝ) : EReal))
    (hD : ∀ i, ∃ r : ℝ, D i = ((r : ℝ) : EReal)) (i : S8x2048x128.Idx) :
    ∃ r : ℝ, Cert.ReferenceIdeal.Value.points N D M i = ((r : ℝ) : EReal) := by
  unfold Cert.ReferenceIdeal.Value.points select Scalar.select
  split
  · exact hD i
  · exact hN i

end Cert.Pre_finite_samples

end
-- ==== Proof.lean ====
/- The claim: the three programs run and leave their arguments unchanged, and the kernel and the reference end with the same results. -/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Arrays
public import proofs.«01_k».proof.Proof.Finite
public import Idealize.ShloMosaic.Lib.Claim
public import Idealize.ShloMosaic.Lib.Quiescent

@[expose] public section
set_option maxRecDepth 16384
noncomputable section
namespace Cert.Proof
open Idealize.ShloMosaic Idealize.SL.Sem

/-- The reference, from any memory, ends with its argument arrays unchanged. -/
theorem ref_unchanged (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2) := by
  hlo_run

/-- The frame claim of the reference: it has no semaphore, so every counter is zero at the end as well. -/
theorem ref_frame : Cert.quiescent_ReferenceIdeal := fun m g _ =>
  (θ_run Cert.ReferenceIdeal.defs _ _).mono (fun r h => ⟨h, sem_eq_zero_of_no_sems (by decide) r.2⟩) (ref_unchanged m g)

open Cert.KernelIdeal.Value in
/-- Under the precondition the kernel's two results are the reference's functions of the same arguments. -/
theorem results (m : (ℓ : Loc Cert.KernelIdeal.nD Cert.KernelIdeal.τ Cert.KernelIdeal.sig) → Buf (Elt Ideal) ℓ)
    (h : Cert.Pre_KernelIdeal_finite_samples m) (c : Dev Cert.KernelIdeal.nD) :
    Cert.ReferenceIdeal.Value.minDist (pts m c) (samples m c)
        = Pipeline.afterTail₀ Cert.KernelIdeal.cfgs (Cert.KernelIdeal.Gen.dats m) 0 (Cert.KernelIdeal.Gen.V0 m) [Cert.KernelIdeal.Gen.hostOps1] c Cert.KernelIdeal.main_v3
      ∧ Cert.ReferenceIdeal.Value.argMin (pts m c) (samples m c)
        = Pipeline.afterTail₀ Cert.KernelIdeal.cfgs (Cert.KernelIdeal.Gen.dats m) 0 (Cert.KernelIdeal.Gen.V0 m) [Cert.KernelIdeal.Gen.hostOps1] c Cert.KernelIdeal.main_v4 := by
  obtain ⟨hN, hD⟩ := Cert.Pre_finite_samples.real_of_pre _ _ _ (h c)
  have hX := Cert.Pre_finite_samples.real_points _ _ (m ((c.tc : Thread Cert.KernelIdeal.nD Cert.KernelIdeal.τ).loc Cert.KernelIdeal.main_arg2)) hN hD
  choose xr hx using hX
  choose yr hy using hD
  exact ⟨(result0 m c (fun b r k => xr (ix3 b r k)) (fun b j k => yr (ix3 b j k)) (fun b r k => hx _) (fun b j k => hy _)).symm,
    (result1 m c (fun b r k => xr (ix3 b r k)) (fun b j k => yr (ix3 b j k)) (fun b r k => hx _) (fun b j k => hy _)).symm⟩

/-- From arguments that agree and are finite, the kernel and the reference end with equal results, both of them. -/
theorem values : Cert.algebraic_KernelIdeal_ReferenceIdeal_pre_finite_samples := by
  pair_intro
  · run_from Cert.KernelIdeal.Gen.run_main m g
    · exact Cert.KernelIdeal.Gen.W_main_arg0 m (Cert.KernelIdeal.Gen.dats m) c
    · exact Cert.KernelIdeal.Gen.W_main_arg2 m (Cert.KernelIdeal.Gen.dats m) c
  · hlo_run
    · simp -implicitDefEqProofs only [StableHlo.TRef.toBuf, StableHlo.TRef.ofBuf, cast_cast, cast_eq]
      exact (results m hpre c).1
    · simp -implicitDefEqProofs only [StableHlo.TRef.toBuf, StableHlo.TRef.ofBuf, cast_cast, cast_eq]
      refine Eq.trans ?_ (results m hpre c).2
      rw [Cert.ReferenceIdeal.Value.argMin_eq]
      refine funext fun j => congrArg Prod.snd ?_
      unfold Cert.ReferenceIdeal.Value.argPairs
      rfl

/-- The claim. -/
theorem claim : Cert.Claim := ⟨Cert.Kernel.Gen.facts, Cert.KernelIdeal.Gen.facts, Cert.ReferenceIdeal.Gen.facts, Cert.Pre_finite_samples.pre_facts,
  fun m ρ _ => Cert.Kernel.Gen.frame m ρ, fun m ρ _ => Cert.KernelIdeal.Gen.frame m ρ,
  fun m ρ _ => Cert.KernelIdeal.Gen.frame m ρ, ref_frame, fun m ρ _ => ref_frame m ρ trivial, trivial, values⟩

end Cert.Proof

end
